-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S11008x32x128 : Shape := ⟨3, ![11008, 32, 128]⟩
abbrev S11008x32x1 : Shape := ⟨3, ![11008, 32, 1]⟩
abbrev S11008 : Shape := ⟨1, ![11008]⟩
abbrev S32x128x11008 : Shape := ⟨3, ![32, 128, 11008]⟩
abbrev S11008x32 : Shape := ⟨2, ![11008, 32]⟩
abbrev S32x11008 : Shape := ⟨2, ![32, 11008]⟩
abbrev S32x1x11008 : Shape := ⟨3, ![32, 1, 11008]⟩
abbrev S1x11008 : Shape := ⟨2, ![1, 11008]⟩
abbrev S4096x11008 : Shape := ⟨2, ![4096, 11008]⟩
abbrev S2048x4096 : Shape := ⟨2, ![2048, 4096]⟩
abbrev S32x128x256 : Shape := ⟨3, ![32, 128, 256]⟩
abbrev S32x1x256 : Shape := ⟨3, ![32, 1, 256]⟩
abbrev S1x256 : Shape := ⟨2, ![1, 256]⟩
abbrev S2048x256 : Shape := ⟨2, ![2048, 256]⟩
abbrev S4096x256 : Shape := ⟨2, ![4096, 256]⟩

abbrev nBuf : Space → Nat
  | .hbm => 11
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S11008x32x128, .i8⟩
  | .hbm, ⟨2, _⟩ => ⟨S11008x32x1, .f32⟩
  | .hbm, ⟨3, _⟩ => ⟨S11008, .f32⟩
  | .hbm, ⟨4, _⟩ => ⟨S32x128x11008, .i8⟩
  | .hbm, ⟨5, _⟩ => ⟨S11008x32, .f32⟩
  | .hbm, ⟨6, _⟩ => ⟨S32x11008, .f32⟩
  | .hbm, ⟨7, _⟩ => ⟨S32x1x11008, .f32⟩
  | .hbm, ⟨8, _⟩ => ⟨S1x11008, .f32⟩
  | .hbm, ⟨9, _⟩ => ⟨S4096x4096, .bf16⟩
  | .hbm, ⟨10, _⟩ => ⟨S4096x11008, .f32⟩
  | .local _ .vmem, ⟨0, _⟩ => ⟨S2048x4096, .bf16⟩
  | .local _ .vmem, ⟨1, _⟩ => ⟨S2048x4096, .bf16⟩
  | .local _ .vmem, ⟨2, _⟩ => ⟨S32x128x256, .i8⟩
  | .local _ .vmem, ⟨3, _⟩ => ⟨S32x128x256, .i8⟩
  | .local _ .vmem, ⟨4, _⟩ => ⟨S32x1x256, .f32⟩
  | .local _ .vmem, ⟨5, _⟩ => ⟨S32x1x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x4096 : Shape := ⟨2, ![4096, 4096]⟩
abbrev S11008x32x128 : Shape := ⟨3, ![11008, 32, 128]⟩
abbrev S11008x32x1 : Shape := ⟨3, ![11008, 32, 1]⟩
abbrev S11008 : Shape := ⟨1, ![11008]⟩
abbrev S11008x4096 : Shape := ⟨2, ![11008, 4096]⟩
abbrev S4096x11008 : Shape := ⟨2, ![4096, 11008]⟩
abbrev S1x11008 : Shape := ⟨2, ![1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x32x128, .i8⟩
  | .hbm, ⟨2, _⟩ => ⟨S11008x32x1, .f32⟩
  | .hbm, ⟨3, _⟩ => ⟨S11008, .f32⟩
  | .hbm, ⟨4, _⟩ => ⟨S11008x32x128, .i32⟩
  | .hbm, ⟨5, _⟩ => ⟨S11008x32x128, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S4096x11008, .f32⟩
  | .hbm, ⟨10, _⟩ => ⟨S4096x11008, .f32⟩
  | .hbm, ⟨11, _⟩ => ⟨S1x11008, .f32⟩
  | .hbm, ⟨12, _⟩ => ⟨S4096x11008, .f32⟩
  | .hbm, ⟨13, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Linear.lean ====
/-
  The mathematics of the layer, with no program in sight: the dequantised linear map
      out[i, j] = (Σₖ x[i, k] · (w[j, k / 128, k % 128] · s[j, k / 128, 0])) + b[j]
  over the extended reals, `w` signed bytes read as integers, one scale for each output feature and group of 128 inputs.
-/
module

public import proofs.«01_k».proof.KernelIdeal
public import Idealize.ShloMosaic.Lib.Pointwise

@[expose] public section

noncomputable section

namespace Cert.Linear

open Idealize.ShloMosaic
open scoped BigOperators

/-- The group of 128 consecutive input features that feature `k` lies in. -/
def grp (k : Fin 4096) : Fin 32 := ⟨k.val / 128, by have := k.isLt; omega⟩
/-- The place of input feature `k` inside its group. -/
def lane (k : Fin 4096) : Fin 128 := ⟨k.val % 128, Nat.mod_lt _ (by decide)⟩

/-- A signed byte as the extended real that is its integer. -/
def byteVal (w : BitVec 8) : EReal := ((w.toInt : ℝ) : EReal)

/-- The dequantised weight of output feature `j` at input feature `k`. -/
def weight (w : (⟨3, ![11008, 32, 128]⟩ : Shape).Idx → BitVec 8) (s : (⟨3, ![11008, 32, 1]⟩ : Shape).Idx → EReal)
    (j : Fin 11008) (k : Fin 4096) : EReal :=
  byteVal (w (ix3 j (grp k) (lane k))) * s (ix3 j (grp k) 0)

/-- The layer's result at row `i` and output feature `j`: the product with the dequantised weights, plus the bias. -/
def out (x : (⟨2, ![4096, 4096]⟩ : Shape).Idx → EReal) (w : (⟨3, ![11008, 32, 128]⟩ : Shape).Idx → BitVec 8)
    (s : (⟨3, ![11008, 32, 1]⟩ : Shape).Idx → EReal) (b : (⟨1, ![11008]⟩ : Shape).Idx → EReal)
    (i : Fin 4096) (j : Fin 11008) : EReal :=
  (∑ k : Fin 4096, x (ix2 i k) * weight w s j k) + b (ix1 j)

end Cert.Linear

end
-- ==== Proof.Block.lean ====
/-
  What one grid point of the kernel computes: the body's one stored value, read at an index of the output block,
  is the dequantised product of the loaded blocks plus the bias block.
-/
module

public import proofs.«01_k».proof.Proof.Linear
public import proofs.«01_k».proof.Proof.Gen.KernelIdeal.Skeleton
public import Idealize.ShloMosaic.Lib.Pipeline.Value
public import Idealize.ShloMosaic.Lib.Pointwise

@[expose] public section

noncomputable section

namespace Cert.KernelIdeal.Block

open Cert.KernelIdeal Cert.KernelIdeal.Gen Cert.Linear Idealize.ShloMosaic
open scoped BigOperators

/-- The stored block at row `r` and column `c`: feature `k` of the block's rows meets the byte at group `k / 128`, place
    `k % 128`, scaled by that group's scale; the product accumulates from zero, then the bias is added. The casts to
    bf16 are the identity over the extended reals. -/
theorem pay_apply (W : Vec Ideal S32x128x256 .i8) (S : Vec Ideal S32x1x256 .f32) (X : Vec Ideal S2048x4096 .bf16)
    (B : Vec Ideal S1x256 .f32) (r : Fin 2048) (c : Fin 256) :
    k0_pay1 W S X B (ix2 r c)
      = (∑ k : Fin 4096, X (ix2 r k) * (byteVal (W (ix3 (grp k) (lane k) c)) * S (ix3 (grp k) 0 c))) + B (ix2 0 c) := by
  unfold k0_pay1
  pointwise
  rfl

end Cert.KernelIdeal.Block

end
-- ==== Proof.KernelValue.lean ====
/-
  What the kernel's result array holds after its run: the layer's result at every index. The six host operations
  before the launch only re-lay the arguments; each grid point writes one block of the result, and the 2 × 43 blocks
  tile the array.
-/
module

public import proofs.«01_k».proof.Proof.Block
public import proofs.«01_k».proof.Proof.Gen.KernelIdeal.Value
public import Idealize.ShloMosaic.Lib.Claim

@[expose] public section

noncomputable section

namespace Cert.KernelIdeal.Whole

open Cert.KernelIdeal Cert.KernelIdeal.Gen Cert.Linear Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arguments, and the re-laid operands the launch finds -/

/-- The argument arrays of device `c`, each at its own type. -/
abbrev argX (c : Dev nD) : Vec Ideal S4096x4096 .f32 := m ((c : Thread nD τ).loc main_arg0)
abbrev argW (c : Dev nD) : Vec Ideal S11008x32x128 .i8 := m ((c : Thread nD τ).loc main_arg1)
abbrev argS (c : Dev nD) : Vec Ideal S11008x32x1 .f32 := m ((c : Thread nD τ).loc main_arg2)
abbrev argB (c : Dev nD) : Vec Ideal S11008 .f32 := m ((c : Thread nD τ).loc main_arg3)

/-- The first operand is `x` with its format changed, the same extended reals. -/
theorem V_x (c : Dev nD) (i k : Fin 4096) : V m c main_v5 (ix2 i k) = argX m c (ix2 i k) := by
  have h : V m c main_v5 = truncf (F := Ideal) .bf16 (argX m c) bitsLt_bf16_f32 := by
    unfold V; after_results <;> rfl
  rw [h]; pointwise

/-- The second operand is `w_q` with the output feature last. -/
theorem V_w (c : Dev nD) (g : Fin 32) (l : Fin 128) (j : Fin 11008) :
    V m c main_v0 (ix3 g l j) = argW m c (ix3 j g l) := by
  have h : V m c main_v0 = transpose S32x128x11008 [1, 2, 0] (argW m c) transposes_S11008x32x128_S32x128x11008_1_2_0 := by
    unfold V; after_results <;> rfl
  rw [h]; pointwise

/-- The third operand is `scales` with the output feature last and the unit axis in the middle. -/
theorem V_s (c : Dev nD) (g : Fin 32) (j : Fin 11008) :
    V m c main_v3 (ix3 g 0 j) = argS m c (ix3 j g 0) := by
  have h : V m c main_v3 = shapeCast S32x1x11008 (transpose S32x11008 [1, 0] (shapeCast S11008x32 (argS m c)
      shapeCasts_S11008x32x1_S11008x32) transposes_S11008x32_S32x11008_1_0) shapeCasts_S32x11008_S32x1x11008 := by
    unfold V; after_results <;> rfl
  rw [h]; pointwise

/-- The fourth operand is `bias` as one row. -/
theorem V_b (c : Dev nD) (j : Fin 11008) : V m c main_v4 (ix2 0 j) = argB m c (ix1 j) := by
  have h : V m c main_v4 = shapeCast S1x11008 (argB m c) shapeCasts_S11008_S1x11008 := by
    unfold V; after_results <;> rfl
  rw [h]; pointwise

/-! ## The blocks: where each window's block lies at a point -/

/-- The grid's 86 points run row block by row block: point `t` is row block `t / 43`, column block `t % 43`, and each
    window's block follows the one, the other, or both. -/
theorem idx_facts : ∀ t : Fin cfg0.N,
    (win0_0.index t (0 : Fin 2) = t.val / 43 ∧ win0_0.index t (1 : Fin 2) = 0)
    ∧ (win0_1.index t (0 : Fin 3) = 0 ∧ win0_1.index t (1 : Fin 3) = 0 ∧ win0_1.index t (2 : Fin 3) = t.val % 43)
    ∧ (win0_2.index t (0 : Fin 3) = 0 ∧ win0_2.index t (1 : Fin 3) = 0 ∧ win0_2.index t (2 : Fin 3) = t.val % 43)
    ∧ (win0_3.index t (0 : Fin 2) = 0 ∧ win0_3.index t (1 : Fin 2) = t.val % 43)
    ∧ (win0_4.index t (0 : Fin 2) = t.val / 43 ∧ win0_4.index t (1 : Fin 2) = t.val % 43) :=
  (by decide +kernel : ∀ t : Fin grid0.N, _)

/-- The row of the whole array that row `r` of the block at point `t` is. -/
def row (t : Fin cfg0.N) (r : Fin 2048) : Fin 4096 :=
  ⟨t.val / 43 * 2048 + r.val, by have := t.isLt; have h : cfg0.N = 86 := N_0; have := r.isLt; omega⟩
/-- The output feature that column `l` of the block at point `t` is. -/
def col (t : Fin cfg0.N) (l : Fin 256) : Fin 11008 :=
  ⟨t.val % 43 * 256 + l.val, by have := l.isLt; omega⟩

/-- The block of `x` at point `t`: 2048 whole rows. -/
theorem blk_x (c : Dev nD) (t : Fin cfg0.N) (r : Fin 2048) (k : Fin 4096) :
    iblk m c 0 t (ix2 r k) = argX m c (ix2 (row t r) k) := by
  obtain ⟨⟨h0, h1⟩, -⟩ := idx_facts t
  rw [← V_x]
  show V m c main_v5 ((win0_0.rect t).emb (ix2 r k)) = _
  refine congrArg _ (funext fun a => Fin.ext ?_)
  match a with
  | ⟨0, _⟩ => show win0_0.index t (0 : Fin 2) * 2048 + 1 * r.val = t.val / 43 * 2048 + r.val; rw [h0]; omega
  | ⟨1, _⟩ => show win0_0.index t (1 : Fin 2) * 4096 + 1 * k.val = k.val; rw [h1]; omega

/-- The block of the re-laid `w_q` at point `t`: 256 output features, every group and place. -/
theorem blk_w (c : Dev nD) (t : Fin cfg0.N) (g : Fin 32) (p : Fin 128) (l : Fin 256) :
    iblk m c 1 t (ix3 g p l) = argW m c (ix3 (col t l) g p) := by
  obtain ⟨-, ⟨h0, h1, h2⟩, -⟩ := idx_facts t
  rw [← V_w]
  show V m c main_v0 ((win0_1.rect t).emb (ix3 g p l)) = _
  refine congrArg _ (funext fun a => Fin.ext ?_)
  match a with
  | ⟨0, _⟩ => show win0_1.index t (0 : Fin 3) * 32 + 1 * g.val = g.val; rw [h0]; omega
  | ⟨1, _⟩ => show win0_1.index t (1 : Fin 3) * 128 + 1 * p.val = p.val; rw [h1]; omega
  | ⟨2, _⟩ => show win0_1.index t (2 : Fin 3) * 256 + 1 * l.val = t.val % 43 * 256 + l.val; rw [h2]; omega

/-- The block of the re-laid `scales` at point `t`: 256 output features, every group. -/
theorem blk_s (c : Dev nD) (t : Fin cfg0.N) (g : Fin 32) (l : Fin 256) :
    iblk m c 2 t (ix3 g 0 l) = argS m c (ix3 (col t l) g 0) := by
  obtain ⟨-, -, ⟨h0, h1, h2⟩, -⟩ := idx_facts t
  rw [← V_s]
  show V m c main_v3 ((win0_2.rect t).emb (ix3 g 0 l)) = _
  refine congrArg _ (funext fun a => Fin.ext ?_)
  match a with
  | ⟨0, _⟩ => show win0_2.index t (0 : Fin 3) * 32 + 1 * g.val = g.val; rw [h0]; omega
  | ⟨1, _⟩ => show win0_2.index t (1 : Fin 3) * 1 + 1 * 0 = 0; rw [h1]
  | ⟨2, _⟩ => show win0_2.index t (2 : Fin 3) * 256 + 1 * l.val = t.val % 43 * 256 + l.val; rw [h2]; omega

/-- The block of the bias row at point `t`: 256 output features. -/
theorem blk_b (c : Dev nD) (t : Fin cfg0.N) (l : Fin 256) :
    iblk m c 3 t (ix2 0 l) = argB m c (ix1 (col t l)) := by
  obtain ⟨-, -, -, ⟨h0, h1⟩, -⟩ := idx_facts t
  rw [← V_b]
  show V m c main_v4 ((win0_3.rect t).emb (ix2 0 l)) = _
  refine congrArg _ (funext fun a => Fin.ext ?_)
  match a with
  | ⟨0, _⟩ => show win0_3.index t (0 : Fin 2) * 1 + 1 * 0 = 0; rw [h0]
  | ⟨1, _⟩ => show win0_3.index t (1 : Fin 2) * 256 + 1 * l.val = t.val % 43 * 256 + l.val; rw [h1]; omega

/-! ## The result array -/

/-- The layer's result of device `c`'s arguments, as the whole result array. -/
def result (c : Dev nD) : Buf (Elt Ideal) ((c : Thread nD τ).loc main_v6) :=
  fun i : S4096x11008.Idx => out (argX m c) (argW m c) (argS m c) (argB m c) (i 0) (i 1)

theorem zero2 : (![0, 0] : Fin 2 → Nat) = fun _ => 0 := funext fun a => by fin_cases a <;> rfl
theorem zero3 : (![0, 0, 0] : Fin 3 → Nat) = fun _ => 0 := funext fun a => by fin_cases a <;> rfl

/-- Every index of a 2048 × 256 block is named by its row and column. -/
theorem blockIdx_eq (y : S2048x256.Idx) : ∃ (r : Fin 2048) (l : Fin 256), y = ix2 r l := by
  refine ⟨y 0, y 1, funext fun a => ?_⟩
  match a with | ⟨0, _⟩ => rfl | ⟨1, _⟩ => rfl

/-- What point `t` writes back is its block of the layer's result. -/
theorem flushed_eq (c : Dev nD) (t : Fin cfg0.N) :
    (dats m 0 c).flushed 4 t = (win0_4.blk t).view.read (Elt Ideal) (result m c) := by
  rw [Value.flushed4]
  unfold out0_4
  rw [View.canon_unit_zero zero2, View.ld_unit_zero zero3, View.ld_unit_zero zero3, View.ld_unit_zero zero2,
    View.ld_unit_zero zero2]
  obtain ⟨-, -, -, -, h0, h1⟩ := idx_facts t
  funext y
  obtain ⟨r, l, rfl⟩ := blockIdx_eq y
  refine (Block.pay_apply _ _ _ _ r l).trans ?_
  have e : (win0_4.rect t).emb (ix2 r l) = ix2 (row t r) (col t l) := by
    refine funext fun a => Fin.ext ?_
    match a with
    | ⟨0, _⟩ => show win0_4.index t (0 : Fin 2) * 2048 + 1 * r.val = t.val / 43 * 2048 + r.val; rw [h0]; omega
    | ⟨1, _⟩ => show win0_4.index t (1 : Fin 2) * 256 + 1 * l.val = t.val % 43 * 256 + l.val; rw [h1]; omega
  show _ = result m c ((win0_4.rect t).emb (ix2 r l))
  rw [e]
  show _ = out (argX m c) (argW m c) (argS m c) (argB m c) (row t r) (col t l)
  unfold out weight
  rw [blk_b]
  simp only [blk_x, blk_w, blk_s]

/-- The result's blocks tile its array: row `i 0` lies in row block `i 0 / 2048`, column `i 1` in column block `i 1 / 256`. -/
theorem cover (i : S4096x11008.Idx) :
    ∃ t : Fin cfg0.N, (cfg0.win 4).flush t = true ∧ i ∈ ((cfg0.win 4).blk t).view.set := by
  have b0 : (i 0 : Nat) < 4096 := (i 0).isLt
  have b1 : (i 1 : Nat) < 11008 := (i 1).isLt
  have hN : cfg0.N = 86 := N_0
  have ht : (i 0 : Nat) / 2048 * 43 + (i 1 : Nat) / 256 < cfg0.N := by omega
  refine ⟨⟨_, ht⟩, flush0_4 _, ?_⟩
  show i ∈ ((View.whole main_v6).slice (win0_4.rect ⟨_, ht⟩)).set
  rw [View.set_slice_whole, Rect.mem_set_unit]
  obtain ⟨-, -, -, -, h0, h1⟩ := idx_facts ⟨_, ht⟩
  intro a
  match a with
  | ⟨0, _⟩ =>
    show win0_4.index ⟨_, ht⟩ (0 : Fin 2) * 2048 ≤ (i 0 : Nat) ∧ (i 0 : Nat) < win0_4.index ⟨_, ht⟩ (0 : Fin 2) * 2048 + 2048
    rw [h0]; dsimp only; omega
  | ⟨1, _⟩ =>
    show win0_4.index ⟨_, ht⟩ (1 : Fin 2) * 256 ≤ (i 1 : Nat) ∧ (i 1 : Nat) < win0_4.index ⟨_, ht⟩ (1 : Fin 2) * 256 + 256
    rw [h1]; dsimp only; omega

/-- So after the run the result array is the layer's result. -/
theorem final (c : Dev nD) : (dats m 0 c).arrAt 4 cfg0.N = result m c :=
  (dats m 0 c).arrAt_eq_of_cover 4 (result m c) (fun t _ => flushed_eq m c t) cover

end Cert.KernelIdeal.Whole

end
-- ==== Proof.RefValue.lean ====
/-
  What the reference computes: the term its run leaves in the result array, read at an index, is the layer's result.
-/
module

public import proofs.«01_k».proof.Proof.Linear
public import proofs.«01_k».proof.Proof.Gen.ReferenceIdeal.Run
public import Idealize.ShloMosaic.Lib.Pointwise

@[expose] public section

noncomputable section

namespace Cert.ReferenceIdeal.RefValue

open Cert.ReferenceIdeal Cert.ReferenceIdeal.Gen Cert.Linear Idealize.ShloMosaic
open scoped BigOperators

/-- A byte widened to 32 bits with its sign is the same integer, so it converts to the same extended real. -/
theorem sitofp_widened (w : BitVec 8) : (FloatOps.sitofp .f32 (w.signExtend 32) : Ideal .f32) = byteVal w := by
  show (((w.signExtend 32).toInt : ℝ) : EReal) = byteVal w
  rw [BitVec.toInt_signExtend_of_le (by decide)]; rfl

/-- The reference's composed term at row `i` and output feature `j`. -/
theorem ref_apply (x : Vec Ideal S4096x4096 .f32) (w : Vec Ideal S11008x32x128 .i8) (s : Vec Ideal S11008x32x1 .f32)
    (b : Vec Ideal S11008 .f32) (i : Fin 4096) (j : Fin 11008) :
    (addf (Host.dotGeneral (φ₁ := .f32) (φ₂ := .f32) dot_S4096x4096_S4096x11008_S4096x11008_1_0_0_1_n_n none x (transpose S4096x11008 [1, 0] (shapeCast S11008x4096 (mulf (sitofp .f32 (extsi 32 w natLt_8_32)) (broadcastInDim S11008x32x128 ![0, 1, 2] bcast_S11008x32x1_S11008x32x128_0_1_2 s)) shapeCasts_S11008x32x128_S11008x4096) transposes_S11008x4096_S4096x11008_1_0)) (broadcastInDim S4096x11008 ![0, 1] bcast_S1x11008_S4096x11008_0_1 (broadcastInDim S1x11008 ![1] bcast_S11008_S1x11008_1 b)) : FVec Ideal S4096x11008 .f32) (ix2 i j)
      = out x w s b i j := by
  pointwise
  simp only [sitofp_widened]
  rfl

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's frame: its run leaves the arguments unchanged, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference end with the same result array: both hold the layer's result of arguments that agree. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun _ h c => ⟨(h c).1.trans (Cert.KernelIdeal.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    funext i
    rw [show i = ix2 (i 0) (i 1) from funext fun a => by match a with | ⟨0, _⟩ => rfl | ⟨1, _⟩ => rfl]
    exact Cert.ReferenceIdeal.RefValue.ref_apply _ _ _ _ _ _

/-- The certificate's claim: the three frames, the idealisation (no rewrite) and the equation. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    trivial, algebraic⟩

end Cert.Proof

end
